-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_temperature_is_not_zero [hPre_temperature_is_not_zero : Cert.Pre_temperature_is_not_zero.Facts] (m : (ℓ : Loc Cert.KernelIdeal.nD Cert.KernelIdeal.τ Cert.KernelIdeal.sig) → Buf (Elt Ideal) ℓ) : Prop :=
  ∀ c : Dev Cert.KernelIdeal.nD,
    (Cert.Pre_temperature_is_not_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_temperature_is_not_zero [hPre_temperature_is_not_zero : Cert.Pre_temperature_is_not_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_temperature_is_not_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_temperature_is_not_zero [hKernelIdeal : Cert.KernelIdeal.Facts] [hPre_temperature_is_not_zero : Cert.Pre_temperature_is_not_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_temperature_is_not_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_temperature_is_not_zero [hReferenceIdeal : Cert.ReferenceIdeal.Facts] [hPre_temperature_is_not_zero : Cert.Pre_temperature_is_not_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_temperature_is_not_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal_pre_temperature_is_not_zero [hKernelIdeal : Cert.KernelIdeal.Facts] [hReferenceIdeal : Cert.ReferenceIdeal.Facts] [hPre_temperature_is_not_zero : Cert.Pre_temperature_is_not_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_temperature_is_not_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_temperature_is_not_zero : Cert.Pre_temperature_is_not_zero.Facts),
    quiescent_Kernel (hKernel := hKernel)
    ∧ quiescent_KernelIdeal (hKernelIdeal := hKernelIdeal)
    ∧ quiescent_KernelIdeal_pre_temperature_is_not_zero (hKernelIdeal := hKernelIdeal) (hPre_temperature_is_not_zero := hPre_temperature_is_not_zero)
    ∧ quiescent_ReferenceIdeal (hReferenceIdeal := hReferenceIdeal)
    ∧ quiescent_ReferenceIdeal_pre_temperature_is_not_zero (hReferenceIdeal := hReferenceIdeal) (hPre_temperature_is_not_zero := hPre_temperature_is_not_zero)
    ∧ preserves_Kernel_KernelIdeal
    ∧ algebraic_KernelIdeal_ReferenceIdeal_pre_temperature_is_not_zero (hKernelIdeal := hKernelIdeal) (hReferenceIdeal := hReferenceIdeal) (hPre_temperature_is_not_zero := hPre_temperature_is_not_zero)
-- ==== Pre_temperature_is_not_zero.lean ====
abbrev S32768x768 : Shape := ⟨2, ![32768, 768]⟩
abbrev S64x768 : Shape := ⟨2, ![64, 768]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S32768x768 .f32) (main_arg1 : FVec F S64x768 .f32) (main_arg2 : FVec F S1 .f32) : IVec S1 1 :=
  let main_cst : FVec F S_ .f32 := constant S_ .f32 0x00000000#32
  let main_v0 : FVec F S1 .f32 := broadcastInDim S1 ![] bcast_S_S1 main_cst
  let main_v1 : IVec S1 1 := cmpf .une main_arg2 main_v0
  main_v1
-- ==== Kernel.lean ====
abbrev S32768x768 : Shape := ⟨2, ![32768, 768]⟩
abbrev S64x768 : Shape := ⟨2, ![64, 768]⟩
abbrev S1 : Shape := ⟨1, ![1]⟩
abbrev S32768x64 : Shape := ⟨2, ![32768, 64]⟩
abbrev S4096x768 : Shape := ⟨2, ![4096, 768]⟩
abbrev S4096x64 : Shape := ⟨2, ![4096, 64]⟩
abbrev S64 : Shape := ⟨1, ![64]⟩
abbrev S64x1 : Shape := ⟨2, ![64, 1]⟩
abbrev S4096 : Shape := ⟨1, ![4096]⟩
abbrev S4096x1 : Shape := ⟨2, ![4096, 1]⟩

abbrev nBuf : Space → Nat
  | .hbm => 4
  | .vmem => 6
  | .smem => 1
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S1, .f32⟩
  | .hbm, ⟨3, _⟩ => ⟨S32768x64, .f32⟩
  | .local _ .vmem, ⟨0, _⟩ => ⟨S4096x768, .f32⟩
  | .local _ .vmem, ⟨1, _⟩ => ⟨S4096x768, .f32⟩
  | .local _ .vmem, ⟨2, _⟩ => ⟨S64x768, .f32⟩
  | .local _ .vmem, ⟨3, _⟩ => ⟨S4096x64, .f32⟩
  | .local _ .vmem, ⟨4, _⟩ => ⟨S4096x64, .f32⟩
  | .local _ .vmem, ⟨5, _⟩ => ⟨S64x768, .f32⟩
  | .local _ .smem, ⟨0, _⟩ => ⟨S1, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "eps_sq" => some ((5316911940649 / 5316911983139663491615228241121378304 : ℝ) : EReal)
  | _ => none
-- ==== ReferenceIdeal.lean ====
abbrev S32768x768 : Shape := ⟨2, ![32768, 768]⟩
abbrev S64x768 : Shape := ⟨2, ![64, 768]⟩
abbrev S1 : Shape := ⟨1, ![1]⟩
abbrev S_ : Shape := ⟨0, ![]⟩
abbrev S32768 : Shape := ⟨1, ![32768]⟩
abbrev S32768x1 : Shape := ⟨2, ![32768, 1]⟩
abbrev S64 : Shape := ⟨1, ![64]⟩
abbrev S64x1 : Shape := ⟨2, ![64, 1]⟩
abbrev S768x64 : Shape := ⟨2, ![768, 64]⟩
abbrev S32768x64 : Shape := ⟨2, ![32768, 64]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S1, .f32⟩
  | .hbm, ⟨3, _⟩ => ⟨S32768x768, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S32768x768, .f32⟩
  | .hbm, ⟨12, _⟩ => ⟨S32768x768, .f32⟩
  | .hbm, ⟨13, _⟩ => ⟨S64x768, .f32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x768, .f32⟩
  | .hbm, ⟨22, _⟩ => ⟨S64x768, .f32⟩
  | .hbm, ⟨23, _⟩ => ⟨S768x64, .f32⟩
  | .hbm, ⟨24, _⟩ => ⟨S32768x64, .f32⟩
  | .hbm, ⟨25, _⟩ => ⟨S1x1, .f32⟩
  | .hbm, ⟨26, _⟩ => ⟨S32768x64, .f32⟩
  | .hbm, ⟨27, _⟩ => ⟨S32768x64, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]
-- ==== Proof.Scalar.lean ====
/-
  The extended-real facts under the router's equation. A row whose squares sum to `s` is divided, in the reference, by
  `max (√s) e`; the kernel multiplies by `1/√(max s e²)` instead. For `0 ≤ s` these are the same scaling by one real
  number that is not negative, also when `s` is infinite (then the number is 0). Such a number may be pulled out of any
  sum of extended reals, which is what lets the kernel scale a row after the product instead of before it.
-/
module

public import Idealize.ShloMosaic.PureOps.Ideal

@[expose] public section

noncomputable section

namespace Cert.Scalar

open Idealize.ShloMosaic

/-- No square is negative, at the infinities too. -/
theorem square_nonneg (x : EReal) : 0 ≤ x * x := by
  rcases le_total 0 x with h | h
  · exact mul_nonneg h h
  · rw [← neg_mul_neg]
    have h' : 0 ≤ -x := EReal.neg_nonneg.mpr h
    exact mul_nonneg h' h'

/-- A sum of squares is not negative. -/
theorem sum_squares_nonneg {n : ℕ} (v : Fin n → EReal) : 0 ≤ ∑ k, v k * v k :=
  Finset.sum_nonneg fun k _ => square_nonneg (v k)

/-- Dividing by `max (√s) e` and multiplying by `1/√(max s e²)` are the same scaling by a real number `r ≥ 0`. -/
theorem exists_scale {e : ℝ} (he : 0 < e) {s : EReal} (hs : 0 ≤ s) :
    ∃ r : ℝ, 0 ≤ r ∧ Ideal.rsqrt (max s ((e * e : ℝ) : EReal)) = (r : EReal)
      ∧ ∀ x : EReal, Ideal.div x (max (Ideal.sqrt s) (e : EReal)) = x * (r : EReal) := by
  induction s with
  | bot => simp at hs
  | top =>
    refine ⟨0, le_rfl, ?_, fun x => ?_⟩
    · rw [max_eq_left le_top, Ideal.rsqrt_top, EReal.coe_zero]
    · rw [Ideal.sqrt_top, max_eq_left le_top, Ideal.div, if_neg EReal.top_ne_zero, EReal.inv_top, EReal.coe_zero]
  | coe a =>
    have ha : 0 ≤ a := EReal.coe_nonneg.mp hs
    have hee : 0 < e * e := mul_pos he he
    have hm : 0 < max a (e * e) := lt_max_of_lt_right hee
    have hroot : Real.sqrt (max a (e * e)) = max (Real.sqrt a) e := by
      rw [Monotone.map_max (f := Real.sqrt) fun _ _ h => Real.sqrt_le_sqrt h, Real.sqrt_mul_self he.le]
    refine ⟨(Real.sqrt (max a (e * e)))⁻¹, inv_nonneg.mpr (Real.sqrt_nonneg _), ?_, fun x => ?_⟩
    · rw [← EReal.coe_strictMono.monotone.map_max, Ideal.rsqrt_coe, if_neg hm.not_gt, if_neg hm.ne']
    · rw [Ideal.sqrt_coe, if_neg ha.not_gt, ← EReal.coe_strictMono.monotone.map_max, ← hroot,
        Ideal.div_coe (Real.sqrt_pos.mpr hm).ne', one_div]

/-- A real factor that is not negative comes out of a sum of extended reals. -/
theorem sum_mul_real {n : ℕ} (f : Fin n → EReal) {r : ℝ} (hr : 0 ≤ r) :
    ∑ k, f k * (r : EReal) = (∑ k, f k) * (r : EReal) := by
  have add (a b : EReal) : (a + b) * (r : EReal) = a * r + b * r :=
    EReal.right_distrib_of_nonneg_of_ne_top (EReal.coe_nonneg.mpr hr) (EReal.coe_ne_top r) a b
  refine Finset.induction_on (Finset.univ : Finset (Fin n)) (by simp) fun k s hk ih => ?_
  rw [Finset.sum_insert hk, Finset.sum_insert hk, ih, add]

/-- THE EQUATION at one token `x`, one expert `c` and a temperature `t ≠ 0`: the product with the normalized expert, scaled
    afterwards by the token's inverse norm over `t`, is the product of the two normalized vectors, divided by `t`. -/
theorem logit_eq {n : ℕ} {e : ℝ} (he : 0 < e) (x c : Fin n → EReal) {t : EReal} (ht : t ≠ 0) :
    (∑ k, x k * (c k * Ideal.rsqrt (max (∑ j, c j * c j) ((e * e : ℝ) : EReal))))
        * Ideal.div (Ideal.rsqrt (max (∑ j, x j * x j) ((e * e : ℝ) : EReal))) t
      = Ideal.div (∑ k, Ideal.div (x k) (max (Ideal.sqrt (∑ j, x j * x j)) (e : EReal))
          * Ideal.div (c k) (max (Ideal.sqrt (∑ j, c j * c j)) (e : EReal))) t := by
  obtain ⟨p, hp, hpk, hpr⟩ := exists_scale he (sum_squares_nonneg x)
  obtain ⟨q, -, hqk, hqr⟩ := exists_scale he (sum_squares_nonneg c)
  simp only [hpk, hqk, hpr, hqr]
  rw [Ideal.div, if_neg ht, Ideal.div, if_neg ht]
  rw [← mul_assoc, ← sum_mul_real _ hp]
  refine congrArg (· * t⁻¹) (Finset.sum_congr rfl fun k _ => ?_)
  ac_rfl

end Cert.Scalar

end
-- ==== Proof.Consts.lean ====
/-
  The two smallest norms, at the ideal instance. The reference holds 1e-12 as a float, which is the rational
  2305843 / 2^61; the kernel's 1e-24 is named that rational's square.
-/
module

public import proofs.«01_k».proof.KernelIdeal
public import Idealize.ShloMosaic.PureOps.Ideal
public import Idealize.ShloMosaic.PureOps.IdealRules

@[expose] public section

noncomputable section

namespace Cert.Consts

open Idealize.ShloMosaic

/-- The smallest norm: the rational that the float 1e-12 is. -/
def eps : ℝ := 2305843 / 2305843009213693952

/-- The smallest norm is positive. -/
theorem eps_pos : 0 < eps := by unfold eps; norm_num

/-- The reference's word for 1e-12 denotes `eps`. -/
theorem ofBits_eps : Ideal.ofBits .f32 0x2B8CBCCC#32 = (eps : EReal) := by
  simp [Ideal.ofBits, Ideal.ieee, eps, -EReal.coe_mul]; norm_num

/-- The kernel's named constant is the square of `eps`. -/
theorem named_eps_sq :
    Named.named (F := Ideal) Cert.KernelIdeal.κ "eps_sq" (φ := .f32) 0x179ABE15#32 = ((eps * eps : ℝ) : EReal) := by
  rw [IdealRules.named_const.ideal_named_scalar Cert.KernelIdeal.κ "eps_sq" (φ := .f32) 0x179ABE15#32
    ((5316911940649 / 5316911983139663491615228241121378304 : ℝ) : EReal) rfl]
  refine congrArg _ ?_
  unfold eps; norm_num

end Cert.Consts

end
-- ==== Proof.Array.lean ====
/-
  What the kernel's result array holds after the run. The scratch that the first grid point fills holds the normalized
  centroids at every point, so each point's block of the result is one function of the token rows it reads: the logits
  of `spec`, and the eight blocks tile the array.
-/
module

public import proofs.«01_k».proof.Proof.Gen.KernelIdeal.Frame
public import proofs.«01_k».proof.Proof.Consts
public import Idealize.ShloMosaic.Lib.Pointwise
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.KernelIdeal.Array

open Cert.KernelIdeal Cert.KernelIdeal.Gen Cert.Consts
open Idealize.ShloMosaic Idealize.ShloMosaic.TcCoe Idealize.SL.Sem
open Idealize.ShloMosaic.Pipeline (Dat)

/-- The logit of token `n` against expert `e`, as the kernel computes it: the products with the expert scaled to unit
    norm, summed, times the token's inverse norm over the temperature. -/
def spec (X : FVec Ideal S32768x768 .f32) (C : FVec Ideal S64x768 .f32) (T : FVec Ideal S1 .f32)
    (n : Fin 32768) (e : Fin 64) : EReal :=
  (∑ k : Fin 768, X (ix2 n k)
      * (C (ix2 e k) * Ideal.rsqrt (max (∑ j : Fin 768, C (ix2 e j) * C (ix2 e j)) ((eps * eps : ℝ) : EReal))))
    * Ideal.div (Ideal.rsqrt (max (∑ j : Fin 768, X (ix2 n j) * X (ix2 n j)) ((eps * eps : ℝ) : EReal))) (T (ix1 0))

/-- What the first point stores in the scratch, at an element: a centroid's entry over the centroid's norm. -/
theorem unit_at (C : FVec Ideal S64x768 .f32) (e : Fin 64) (k : Fin 768) :
    k0_pay1 (F := Ideal) C (ix2 e k)
      = C (ix2 e k) * Ideal.rsqrt (max (∑ j : Fin 768, C (ix2 e j) * C (ix2 e j)) ((eps * eps : ℝ) : EReal)) := by
  pointwise [k0_pay1, named_eps_sq]

/-- What a point stores in its block of the result, at an element, from its rows, the scratch and the temperature. -/
theorem block_at (X : FVec Ideal S4096x768 .f32) (U : FVec Ideal S64x768 .f32) (t : Ideal .f32) (r : Fin 4096) (e : Fin 64) :
    k0_pay2 (F := Ideal) X U t (ix2 r e)
      = (∑ k : Fin 768, X (ix2 r k) * U (ix2 e k))
        * Ideal.div (Ideal.rsqrt (max (∑ j : Fin 768, X (ix2 r j) * X (ix2 r j)) ((eps * eps : ℝ) : EReal))) t := by
  pointwise [k0_pay2, named_eps_sq]

variable (m : (ℓ : Loc nD τ sig) → Buf (Elt Ideal) ℓ)

/-- The windows' block indices at every point: the rows and the result advance, the centroids and the temperature stay. -/
theorem idx : ∀ t : Fin cfg0.N, win0_0.index t = ![t.val, 0] ∧ win0_1.index t = ![0, 0] ∧ win0_2.index t = ![0]
    ∧ win0_3.index t = ![t.val, 0] :=
  (by decide +kernel : ∀ t : Fin grid0.N, _)

/-- The centroids' block is their whole array, at every point. -/
theorem centroids_block (c : Dev nD) (t : Fin cfg0.N) :
    iblk m c 1 t = m ((c : Thread nD τ).loc main_arg1) := by
  blk_ext! [iblk, V, idx t]

/-- The scratch holds the normalized centroids after every point: the first point stores them and no other point writes. -/
theorem scratch (c : Dev nD) (t : Fin cfg0.N) :
    (outsAt0 m c t.val t.isLt).2 = k0_pay1 (F := Ideal) (m ((c : Thread nD τ).loc main_arg1)) := by
  rw [Pipeline.eq_of_write_hold (fun n h => (outsAt0 m c n h).2) 8
    (fun _ => k0_pay1 (F := Ideal) (m ((c : Thread nD τ).loc main_arg1))) (fun t h => ?_) (fun t h => ?_) t]
  · rw [outsAt0_A m c t h]
    frame_out
    rw [centroids_block]
  · rw [outsAt0_B m c t h]
    rfl

/-- The temperature's block is its whole one-element array, at every point. -/
theorem temperature_block (c : Dev nD) (t : Fin cfg0.N) :
    iblk m c 2 t = m ((c : Thread nD τ).loc main_arg2) := by
  blk_ext! [iblk, V, idx t]

/-- What a point leaves in its block of the result: the body's value over the point's rows and the normalized centroids. -/
theorem after_eq (c : Dev nD) (t : Fin cfg0.N) :
    (outsAt0 m c t.val t.isLt).1
      = k0_pay2 (F := Ideal) (iblk m c 0 t) (k0_pay1 (F := Ideal) (m ((c : Thread nD τ).loc main_arg1)))
          (m ((c : Thread nD τ).loc main_arg2) (ix1 0)) := by
  by_cases h : t.val % 8 = 0
  · rw [outsAt0_A m c t h]
    frame_out
    rw [centroids_block, temperature_block]
    refine congrArg _ ?_
    pointwise
  · rw [outsAt0_B m c t h]
    frame_out
    rw [read_unread_whole, scratch m c ⟨t.val - 1, Nat.lt_of_le_of_lt (Nat.sub_le _ _) t.isLt⟩, temperature_block]
    refine congrArg _ ?_
    pointwise

/-- THE RESULT ARRAY after the run: every element is the logit `spec`. -/
theorem final (c : Dev nD) : (dats m 0 c).arrAt 3 (cfgs 0).N
    = fun i : S32768x64.Idx => spec (m ((c : Thread nD τ).loc main_arg0)) (m ((c : Thread nD τ).loc main_arg1))
        (m ((c : Thread nD τ).loc main_arg2)) (i 0) (i 1) := by
  refine (dats m 0 c).arrAt_eq_of_covers 3 _ (by decide +kernel) fun t _ y => ?_
  blk_simp
  rw [after0_3, after_eq]
  obtain ⟨r, e, rfl⟩ : ∃ (r : Fin 4096) (e : Fin 64), y = ix2 r e := ⟨y 0, y 1, eq_ix2 y⟩
  rw [block_at]
  simp only [unit_at, spec]
  blk_point [iblk, V, idx t]

end Cert.KernelIdeal.Array

end
-- ==== Proof.Reference.lean ====
/-
  What the reference computes, read at an element, and what its precondition says.
-/
module

public import proofs.«01_k».proof.Proof.Gen.ReferenceIdeal.Run
public import proofs.«01_k».proof.Proof.Gen.Pre_temperature_is_not_zero
public import proofs.«01_k».proof.Proof.Consts
public import Idealize.ShloMosaic.Lib.Pointwise

@[expose] public section

set_option maxRecDepth 16384

noncomputable section

namespace Cert.ReferenceIdeal.Logits

open Cert.ReferenceIdeal Cert.ReferenceIdeal.Gen Cert.Consts
open Idealize.ShloMosaic Idealize.ShloMosaic.TcCoe Idealize.SL.Sem

/-- The reference's result as a function of its three arguments: both matrices with their rows divided by their norms,
    the product of the one with the other transposed, over the temperature. -/
def result (X : FVec Ideal S32768x768 .f32) (C : FVec Ideal S64x768 .f32) (T : FVec Ideal S1 .f32) :
    FVec Ideal S32768x64 .f32 :=
  Host.divf (Host.dotGeneral dot_S32768x768_S768x64_S32768x64_1_0_0_1_n_n none
      (Host.divf X (broadcastInDim S32768x768 ![0, 1] bcast_S32768x1_S32768x768_0_1
        (maximumf (Host.sqrt (broadcastInDim S32768x1 ![0] bcast_S32768_S32768x1_0
            (Host.reduceAdd (mulf X X) (constant S_ .f32 0x00000000#32) reducesTo_S32768x768_S32768_d1 h_S_)))
          (broadcastInDim S32768x1 ![] bcast_S_S32768x1 (constant S_ .f32 0x2B8CBCCC#32)))))
      (transpose S768x64 [1, 0]
        (Host.divf C (broadcastInDim S64x768 ![0, 1] bcast_S64x1_S64x768_0_1
          (maximumf (Host.sqrt (broadcastInDim S64x1 ![0] bcast_S64_S64x1_0
              (Host.reduceAdd (mulf C C) (constant S_ .f32 0x00000000#32) reducesTo_S64x768_S64_d1 h_S_)))
            (broadcastInDim S64x1 ![] bcast_S_S64x1 (constant S_ .f32 0x2B8CBCCC#32)))))
        transposes_S64x768_S768x64_1_0))
    (broadcastInDim S32768x64 ![0, 1] bcast_S1x1_S32768x64_0_1 (broadcastInDim S1x1 ![1] bcast_S1_S1x1_1 T))

/-- The reference's result at token `n` and expert `e`. -/
theorem result_at (X : FVec Ideal S32768x768 .f32) (C : FVec Ideal S64x768 .f32) (T : FVec Ideal S1 .f32)
    (n : Fin 32768) (e : Fin 64) :
    result X C T (ix2 n e)
      = Ideal.div (∑ k : Fin 768,
          Ideal.div (X (ix2 n k)) (max (Ideal.sqrt (∑ j : Fin 768, X (ix2 n j) * X (ix2 n j))) (eps : EReal))
            * Ideal.div (C (ix2 e k)) (max (Ideal.sqrt (∑ j : Fin 768, C (ix2 e j) * C (ix2 e j))) (eps : EReal)))
          (T (ix1 0)) := by
  pointwise [result, ofBits_eps]

/-- The precondition says that the temperature is not zero. -/
theorem temperature_ne_zero (X : FVec Ideal S32768x768 .f32) (C : FVec Ideal S64x768 .f32) (T : FVec Ideal S1 .f32)
    (h : Cert.Pre_temperature_is_not_zero.fn (F := Ideal) X C T = fun _ => 1#1) : T (ix1 0) ≠ 0 := by
  intro h0
  have h1 := congrFun h (ix1 0)
  simp only [Cert.Pre_temperature_is_not_zero.fn] at h1
  pointwise at h1
  simp [h0] at h1

end Cert.ReferenceIdeal.Logits

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_temperature_is_not_zero
public import proofs.«01_k».proof.Proof.Scalar
public import proofs.«01_k».proof.Proof.Consts
public import proofs.«01_k».proof.Proof.Array
public import proofs.«01_k».proof.Proof.Reference
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs, keeps its arguments and leaves every counter at zero. -/
theorem frame_kernel : Cert.quiescent_Kernel := fun m ρ _ => Cert.Kernel.Gen.frame m ρ

/-- So does the ideal kernel. -/
theorem frame_ideal : Cert.quiescent_KernelIdeal := fun m ρ _ => Cert.KernelIdeal.Gen.frame m ρ

/-- So it does under the precondition. -/
theorem frame_ideal_pre : Cert.quiescent_KernelIdeal_pre_temperature_is_not_zero := fun m ρ _ =>
  Cert.KernelIdeal.Gen.frame m ρ

/-- So does the reference. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- So it does under the precondition. -/
theorem frame_reference_pre : Cert.quiescent_ReferenceIdeal_pre_temperature_is_not_zero := fun m ρ _ =>
  frame_reference m ρ trivial

/-- The one rewrite of the ideal kernel: the smallest squared norm is named the square of the smallest norm. -/
theorem preserves : Cert.preserves_Kernel_KernelIdeal :=
  IdealRules.named_const.statement Cert.KernelIdeal.κ "eps_sq" .f32 0x179ABE15#32
    ((5316911940649 / 5316911983139663491615228241121378304 : ℝ) : EReal) rfl

/-- Where the temperature is not zero, the kernel's result array and the reference's are the same logits. -/
theorem algebraic : Cert.algebraic_KernelIdeal_ReferenceIdeal_pre_temperature_is_not_zero := by
  pair_intro
  · run_from Cert.KernelIdeal.Gen.run_main m g
  · run_from Cert.ReferenceIdeal.Value.run m' g'
    have ht := Cert.ReferenceIdeal.Logits.temperature_ne_zero _ _ _ (hpre c)
    rw [Cert.KernelIdeal.Array.final m c]
    funext i
    obtain ⟨n, e, rfl⟩ : ∃ (n : Fin 32768) (e : Fin 64), i = ix2 n e := ⟨i 0, i 1, by
      funext a; fin_cases a <;> rfl⟩
    exact (Cert.ReferenceIdeal.Logits.result_at _ _ _ n e).trans
      (Cert.Scalar.logit_eq Cert.Consts.eps_pos (fun k => m (c.tc.loc Cert.KernelIdeal.main_arg0) (ix2 n k))
        (fun k => m (c.tc.loc Cert.KernelIdeal.main_arg1) (ix2 e k)) ht).symm

/-- The seven claims. -/
theorem claim : Cert.Claim :=
  ⟨Cert.Kernel.Gen.facts, Cert.KernelIdeal.Gen.facts, Cert.ReferenceIdeal.Gen.facts,
    Cert.Pre_temperature_is_not_zero.Gen.facts, frame_kernel, frame_ideal, frame_ideal_pre, frame_reference,
    frame_reference_pre, preserves, algebraic⟩

end Cert.Proof

end
